-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4x2048x2048 : Shape := ⟨3, ![4, 2048, 2048]⟩
abbrev S1x4 : Shape := ⟨2, ![1, 4]⟩
abbrev S1x16x2048x256 : Shape := ⟨4, ![1, 16, 2048, 256]⟩
abbrev S1x16x256 : Shape := ⟨3, ![1, 16, 256]⟩
abbrev S1x16x256x2048 : Shape := ⟨4, ![1, 16, 256, 2048]⟩
abbrev S_ : Shape := ⟨0, ![]⟩

class Facts : Prop where
  bcast_S_S1x4 : S_.BroadcastsInDim S1x4 (![] : Fin 0 → Fin S1x4.rank)
  reducesTo_S1x4_S_d0_1 : S1x4.ReducesTo [0, 1] S_
  h_S_ : 0 < S_.numel

variable [Facts]

def fn {F : FTy → Type} [FloatOps F] (main_arg0 : FVec F S4x2048x2048 .f32) (main_arg1 : IVec S1x4 32) (main_arg2 : FVec F S1x16x2048x256 .f32) (main_arg3 : FVec F S1x16x256 .f32) (main_arg4 : FVec F S1x16x256x2048 .f32) : IVec S_ 1 :=
  let main_c : IVec S_ 32 := constantI S_ 32 0#32
  let main_v0 : IVec S1x4 32 := broadcastInDim S1x4 ![] bcast_S_S1x4 main_c
  let main_v1 : IVec S1x4 1 := cmpi .sge main_arg1 main_v0
  let main_c_0 : IVec S_ 32 := constantI S_ 32 16#32
  let main_v2 : IVec S1x4 32 := broadcastInDim S1x4 ![] bcast_S_S1x4 main_c_0
  let main_v3 : IVec S1x4 1 := cmpi .slt main_arg1 main_v2
  let main_v4 : IVec S1x4 1 := andi main_v1 main_v3
  let main_c_1 : IVec S_ 1 := constantI S_ 1 1#1
  let main_v5 : IVec S_ 1 := (fun x v => Host.reduce IntOp.andi x v reducesTo_S1x4_S_d0_1 h_S_) main_v4 main_c_1
  main_v5
-- ==== Kernel.lean ====
abbrev S4x2048x2048 : Shape := ⟨3, ![4, 2048, 2048]⟩
abbrev S1x4 : Shape := ⟨2, ![1, 4]⟩
abbrev S1x16x2048x256 : Shape := ⟨4, ![1, 16, 2048, 256]⟩
abbrev S1x16x256 : Shape := ⟨3, ![1, 16, 256]⟩
abbrev S1x16x256x2048 : Shape := ⟨4, ![1, 16, 256, 2048]⟩
abbrev S1x16x1x256 : Shape := ⟨4, ![1, 16, 1, 256]⟩
abbrev S1x4x2048x2048 : Shape := ⟨4, ![1, 4, 2048, 2048]⟩
abbrev S1x1024x2048 : Shape := ⟨3, ![1, 1024, 2048]⟩
abbrev S1x1x2048x256 : Shape := ⟨4, ![1, 1, 2048, 256]⟩
abbrev S1x1 : Shape := ⟨2, ![1, 1]⟩
abbrev S1x1x1x256 : Shape := ⟨4, ![1, 1, 1, 256]⟩
abbrev S1x1x256x2048 : Shape := ⟨4, ![1, 1, 256, 2048]⟩
abbrev S1x1x1024x2048 : Shape := ⟨4, ![1, 1, 1024, 2048]⟩
abbrev S2048x256 : Shape := ⟨2, ![2048, 256]⟩
abbrev S256x2048 : Shape := ⟨2, ![256, 2048]⟩
abbrev S1x256 : Shape := ⟨2, ![1, 256]⟩
abbrev S1x128x2048 : Shape := ⟨3, ![1, 128, 2048]⟩
abbrev S128x2048 : Shape := ⟨2, ![128, 2048]⟩
abbrev S128x256 : Shape := ⟨2, ![128, 256]⟩
abbrev S1x1x128x2048 : Shape := ⟨4, ![1, 1, 128, 2048]⟩

abbrev nBuf : Space → Nat
  | .hbm => 6
  | .vmem => 10
  | .smem => 1
  | _ => 0

abbrev bufTy : (tb : Table) → Fin (tcTables nBuf tb) → BufTy
  | .hbm, ⟨0, _⟩ => ⟨S4x2048x2048, .f32⟩
  | .hbm, ⟨1, _⟩ => ⟨S1x16x2048x256, .f32⟩
  | .hbm, ⟨2, _⟩ => ⟨S1x16x256, .f32⟩
  | .hbm, ⟨3, _⟩ => ⟨S1x16x256x2048, .f32⟩
  | .hbm, ⟨4, _⟩ => ⟨S1x16x1x256, .f32⟩
  | .hbm, ⟨5, _⟩ => ⟨S1x4x2048x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1x2048x256, .f32⟩
  | .local _ .vmem, ⟨3, _⟩ => ⟨S1x1x2048x256, .f32⟩
  | .local _ .vmem, ⟨4, _⟩ => ⟨S1x1x1x256, .f32⟩
  | .local _ .vmem, ⟨5, _⟩ => ⟨S1x1x1x256, .f32⟩
  | .local _ .vmem, ⟨6, _⟩ => ⟨S1x1x256x2048, .f32⟩
  | .local _ .vmem, ⟨7, _⟩ => ⟨S1x1x256x2048, .f32⟩
  | .local _ .vmem, ⟨8, _⟩ => ⟨S1x1x1024x2048, .f32⟩
  | .local _ .vmem, ⟨9, _⟩ => ⟨S1x1x1024x2048, .f32⟩
  | .local _ .smem, ⟨0, _⟩ => ⟨S1x4, .i32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 4, 2], ![false, false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (k0_off1_inb : ∀ i : grid0.Coords, ∀ a, (k0_off1 i) a + S1x1.size a ≤ S1x4.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : Index := Scalar.indexCast arg1
  let v2 : BitVec 32 := pf.at 0 (Rect.unit (s := S1x4) ![v0.toNat, v1.toNat] S1x1.size (k0_off1_inb i)) numel1_S1x1
  let c0_i32 : BitVec 32 := 0#32
  let c0_i32_0 : BitVec 32 := 0#32
  let c0_i32_1 : BitVec 32 := 0#32
  ![arg0.toNat, v2.toNat, c0_i32.toNat, c0_i32_0.toNat]

def cc0_transform_2 (k0_off1_inb : ∀ i : grid0.Coords, ∀ a, (k0_off1 i) a + S1x1.size a ≤ S1x4.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : Index := Scalar.indexCast arg1
  let v2 : BitVec 32 := pf.at 0 (Rect.unit (s := S1x4) ![v0.toNat, v1.toNat] S1x1.size (k0_off1_inb i)) numel1_S1x1
  let c0_i32 : BitVec 32 := 0#32
  let c0_i32_0 : BitVec 32 := 0#32
  let c0_i32_1 : BitVec 32 := 0#32
  ![arg0.toNat, v2.toNat, c0_i32.toNat, c0_i32_0.toNat]

def cc0_transform_3 (k0_off1_inb : ∀ i : grid0.Coords, ∀ a, (k0_off1 i) a + S1x1.size a ≤ S1x4.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : Index := Scalar.indexCast arg1
  let v2 : BitVec 32 := pf.at 0 (Rect.unit (s := S1x4) ![v0.toNat, v1.toNat] S1x1.size (k0_off1_inb i)) numel1_S1x1
  let c0_i32 : BitVec 32 := 0#32
  let c0_i32_0 : BitVec 32 := 0#32
  let c0_i32_1 : BitVec 32 := 0#32
  ![arg0.toNat, v2.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S4x2048x2048 : Shape := ⟨3, ![4, 2048, 2048]⟩
abbrev S1x4 : Shape := ⟨2, ![1, 4]⟩
abbrev S1x16x2048x256 : Shape := ⟨4, ![1, 16, 2048, 256]⟩
abbrev S1x16x256 : Shape := ⟨3, ![1, 16, 256]⟩
abbrev S1x16x256x2048 : Shape := ⟨4, ![1, 16, 256, 2048]⟩
abbrev S1 : Shape := ⟨1, ![1]⟩
abbrev S1x1 : Shape := ⟨2, ![1, 1]⟩
abbrev S_ : Shape := ⟨0, ![]⟩
abbrev S1x4x1 : Shape := ⟨3, ![1, 4, 1]⟩
abbrev S1x4x2 : Shape := ⟨3, ![1, 4, 2]⟩
abbrev S1x4x2048x256 : Shape := ⟨4, ![1, 4, 2048, 256]⟩
abbrev S1x4x256 : Shape := ⟨3, ![1, 4, 256]⟩
abbrev S1x4x2048x2048 : Shape := ⟨4, ![1, 4, 2048, 2048]⟩
abbrev S4x2048x256 : Shape := ⟨3, ![4, 2048, 256]⟩
abbrev S1x4x1x256 : Shape := ⟨4, ![1, 4, 1, 256]⟩
abbrev S1x4x256x2048 : Shape := ⟨4, ![1, 4, 256, 2048]⟩
abbrev S4x256x2048 : Shape := ⟨3, ![4, 256, 2048]⟩

abbrev nBuf : Space → Nat
  | .hbm => 85
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S1x4, .i32⟩
  | .hbm, ⟨2, _⟩ => ⟨S1x16x2048x256, .f32⟩
  | .hbm, ⟨3, _⟩ => ⟨S1x16x256, .f32⟩
  | .hbm, ⟨4, _⟩ => ⟨S1x16x256x2048, .f32⟩
  | .hbm, ⟨5, _⟩ => ⟨S1, .i32⟩
  | .hbm, ⟨6, _⟩ => ⟨S1x1, .i32⟩
  | .hbm, ⟨7, _⟩ => ⟨S_, .i32⟩
  | .hbm, ⟨8, _⟩ => ⟨S1x1, .i32⟩
  | .hbm, ⟨9, _⟩ => ⟨S1x1, .i1⟩
  | .hbm, ⟨10, _⟩ => ⟨S_, .i32⟩
  | .hbm, ⟨11, _⟩ => ⟨S1x1, .i32⟩
  | .hbm, ⟨12, _⟩ => ⟨S1x1, .i32⟩
  | .hbm, ⟨13, _⟩ => ⟨S1x1, .i32⟩
  | .hbm, ⟨14, _⟩ => ⟨S_, .i32⟩
  | .hbm, ⟨15, _⟩ => ⟨S1x4, .i32⟩
  | .hbm, ⟨16, _⟩ => ⟨S1x4, .i1⟩
  | .hbm, ⟨17, _⟩ => ⟨S_, .i32⟩
  | .hbm, ⟨18, _⟩ => ⟨S1x4, .i32⟩
  | .hbm, ⟨19, _⟩ => ⟨S1x4, .i32⟩
  | .hbm, ⟨20, _⟩ => ⟨S1x4, .i32⟩
  | .hbm, ⟨21, _⟩ => ⟨S1x4, .i32⟩
  | .hbm, ⟨22, _⟩ => ⟨S1x4x1, .i32⟩
  | .hbm, ⟨23, _⟩ => ⟨S1x4x1, .i32⟩
  | .hbm, ⟨24, _⟩ => ⟨S1x4x2, .i32⟩
  | .hbm, ⟨25, _⟩ => ⟨S1x4x2048x256, .f32⟩
  | .hbm, ⟨26, _⟩ => ⟨S_, .i32⟩
  | .hbm, ⟨27, _⟩ => ⟨S1x1, .i32⟩
  | .hbm, ⟨28, _⟩ => ⟨S1x1, .i1⟩
  | .hbm, ⟨29, _⟩ => ⟨S_, .i32⟩
  | .hbm, ⟨30, _⟩ => ⟨S1x1, .i32⟩
  | .hbm, ⟨31, _⟩ => ⟨S1x1, .i32⟩
  | .hbm, ⟨32, _⟩ => ⟨S1x1, .i32⟩
  | .hbm, ⟨33, _⟩ => ⟨S_, .i32⟩
  | .hbm, ⟨34, _⟩ => ⟨S1x4, .i32⟩
  | .hbm, ⟨35, _⟩ => ⟨S1x4, .i1⟩
  | .hbm, ⟨36, _⟩ => ⟨S_, .i32⟩
  | .hbm, ⟨37, _⟩ => ⟨S1x4, .i32⟩
  | .hbm, ⟨38, _⟩ => ⟨S1x4, .i32⟩
  | .hbm, ⟨39, _⟩ => ⟨S1x4, .i32⟩
  | .hbm, ⟨40, _⟩ => ⟨S1x4, .i32⟩
  | .hbm, ⟨41, _⟩ => ⟨S1x4x1, .i32⟩
  | .hbm, ⟨42, _⟩ => ⟨S1x4x1, .i32⟩
  | .hbm, ⟨43, _⟩ => ⟨S1x4x2, .i32⟩
  | .hbm, ⟨44, _⟩ => ⟨S1x4x256, .f32⟩
  | .hbm, ⟨45, _⟩ => ⟨S1x4x2048x2048, .f32⟩
  | .hbm, ⟨46, _⟩ => ⟨S4x2048x2048, .f32⟩
  | .hbm, ⟨47, _⟩ => ⟨S4x2048x256, .f32⟩
  | .hbm, ⟨48, _⟩ => ⟨S4x2048x256, .f32⟩
  | .hbm, ⟨49, _⟩ => ⟨S1x4x2048x256, .f32⟩
  | .hbm, ⟨50, _⟩ => ⟨S1x4x1x256, .f32⟩
  | .hbm, ⟨51, _⟩ => ⟨S1x4x2048x256, .f32⟩
  | .hbm, ⟨52, _⟩ => ⟨S1x4x2048x256, .f32⟩
  | .hbm, ⟨53, _⟩ => ⟨S1x4x2048x256, .f32⟩
  | .hbm, ⟨54, _⟩ => ⟨S1x4x2048x256, .f32⟩
  | .hbm, ⟨55, _⟩ => ⟨S_, .f32⟩
  | .hbm, ⟨56, _⟩ => ⟨S1x4x2048x256, .f32⟩
  | .hbm, ⟨57, _⟩ => ⟨S1x4x2048x256, .f32⟩
  | .hbm, ⟨58, _⟩ => ⟨S_, .f32⟩
  | .hbm, ⟨59, _⟩ => ⟨S1x4x2048x256, .f32⟩
  | .hbm, ⟨60, _⟩ => ⟨S1x4x2048x256, .f32⟩
  | .hbm, ⟨61, _⟩ => ⟨S1x4x2048x256, .f32⟩
  | .hbm, ⟨62, _⟩ => ⟨S_, .i32⟩
  | .hbm, ⟨63, _⟩ => ⟨S1x1, .i32⟩
  | .hbm, ⟨64, _⟩ => ⟨S1x1, .i1⟩
  | .hbm, ⟨65, _⟩ => ⟨S_, .i32⟩
  | .hbm, ⟨66, _⟩ => ⟨S1x1, .i32⟩
  | .hbm, ⟨67, _⟩ => ⟨S1x1, .i32⟩
  | .hbm, ⟨68, _⟩ => ⟨S1x1, .i32⟩
  | .hbm, ⟨69, _⟩ => ⟨S_, .i32⟩
  | .hbm, ⟨70, _⟩ => ⟨S1x4, .i32⟩
  | .hbm, ⟨71, _⟩ => ⟨S1x4, .i1⟩
  | .hbm, ⟨72, _⟩ => ⟨S_, .i32⟩
  | .hbm, ⟨73, _⟩ => ⟨S1x4, .i32⟩
  | .hbm, ⟨74, _⟩ => ⟨S1x4, .i32⟩
  | .hbm, ⟨75, _⟩ => ⟨S1x4, .i32⟩
  | .hbm, ⟨76, _⟩ => ⟨S1x4, .i32⟩
  | .hbm, ⟨77, _⟩ => ⟨S1x4x1, .i32⟩
  | .hbm, ⟨78, _⟩ => ⟨S1x4x1, .i32⟩
  | .hbm, ⟨79, _⟩ => ⟨S1x4x2, .i32⟩
  | .hbm, ⟨80, _⟩ => ⟨S1x4x256x2048, .f32⟩
  | .hbm, ⟨81, _⟩ => ⟨S4x2048x256, .f32⟩
  | .hbm, ⟨82, _⟩ => ⟨S4x256x2048, .f32⟩
  | .hbm, ⟨83, _⟩ => ⟨S4x2048x2048, .f32⟩
  | .hbm, ⟨84, _⟩ => ⟨S1x4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_c_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c_8 : Ref sig .tc := ⟨.hbm, 62, rfl⟩
abbrev main_v47 : Ref sig .tc := ⟨.hbm, 63, rfl⟩
abbrev main_v48 : Ref sig .tc := ⟨.hbm, 64, rfl⟩
abbrev main_c_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_10 : Ref sig .tc := ⟨.hbm, 69, rfl⟩
abbrev main_v52 : Ref sig .tc := ⟨.hbm, 70, rfl⟩
abbrev main_v53 : Ref sig .tc := ⟨.hbm, 71, rfl⟩
abbrev main_c_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Proof.Index.lean ====
/- What the precondition says of the table: every word of `expert_index` names one of the 16 experts. From it the
   launch's side condition follows: the three windows whose block is chosen by a word of the table (the down weights, the
   bias and the up weights of the chosen expert) stay inside their arrays at every grid point. Once per program. -/
module

public import proofs.«01_k».proof.Defs
public import proofs.«01_k».proof.Proof.Gen.Kernel.Frame
public import proofs.«01_k».proof.Proof.Gen.KernelIdeal.Frame
public import proofs.«01_k».proof.Proof.Gen.Pre_in_range
public import Idealize.ShloMosaic.Lib.ReduceAll

@[expose] public section

namespace Cert.Index

open Idealize.ShloMosaic

/-- The precondition read at one word: `expert_index` holds numbers from 0 to 15. -/
theorem word_lt {F : FTy → Type} [FloatOps F] (x : FVec F Pre_in_range.S4x2048x2048 .f32) (e : IVec Pre_in_range.S1x4 32)
    (dw : FVec F Pre_in_range.S1x16x2048x256 .f32) (db : FVec F Pre_in_range.S1x16x256 .f32)
    (uw : FVec F Pre_in_range.S1x16x256x2048 .f32)
    (h : Pre_in_range.fn (F := F) x e dw db uw = fun _ => 1#1) (y : Pre_in_range.S1x4.Idx) : (e y).toNat < 16 := by
  have hall := Host.reduce_andi_all _ _ _ _ (fun a => a.elim0) (congrFun h fun a => a.elim0) y
  obtain ⟨hge, hlt⟩ := IntOp.andi_eq_one.1 hall
  have hge' := IntOp.cmpi_sge.1 hge
  have hlt' := IntOp.cmpi_slt.1 hlt
  simp only [broadcastInDim, constantI, BitVec.toInt, BitVec.toNat_ofNat] at hge' hlt'
  omega

end Cert.Index

namespace Cert.Kernel.Gen

open Idealize.ShloMosaic Idealize.ShloMosaic.TcCoe

/-- The launch's side condition, from the bound on the table's words. -/
theorem ok_of_words {F : FTy → Type} [FloatOps F] (m : (ℓ : Loc nD τ sig) → Buf (Elt F) ℓ)
    (h : ∀ y : S1x4.Idx, (m (((0 : Dev nD).tc : Thread nD τ).loc main_arg1) y).toNat < 16) : Ok m := by
  have hw : ∀ y : S1x4.Idx, (tbl m 0 y).toNat < 16 := fun y => by
    have e : tbl m 0 = m (((0 : Dev nD).tc : Thread nD τ).loc main_arg1) := V_main_arg1 m 0
    rw [e]; exact h y
  refine ⟨fun i => ⟨fun a => ?_, .inl rfl⟩, fun i => ⟨fun a => ?_, .inl rfl⟩, fun i => ⟨fun a => ?_, .inl rfl⟩⟩
  all_goals
    have h0 : (i 0).val < 1 := (i 0).isLt
    fin_cases a
    · show ((BitVec.ofNat 32 (i 0).val).toNat + 1) * 1 ≤ 1
      rw [BitVec.toNat_ofNat]; omega
    · exact (Nat.mul_one _).le.trans (hw _)
    · exact (Nat.one_mul _).le
    · exact (Nat.one_mul _).le

/-- The launch's side condition, from the precondition. -/
theorem ok_of_pre (m : (ℓ : Loc nD τ sig) → Buf (Elt Bits) ℓ) (h : Cert.Pre_Kernel m) : Ok m :=
  ok_of_words m (Cert.Index.word_lt _ _ _ _ _ (h 0))

end Cert.Kernel.Gen

namespace Cert.KernelIdeal.Gen

open Idealize.ShloMosaic Idealize.ShloMosaic.TcCoe

/-- The table is `expert_index` as launched. -/
theorem tbl_eq {F : FTy → Type} [FloatOps F] (m : (ℓ : Loc nD τ sig) → Buf (Elt F) ℓ) :
    tbl m 0 = m (((0 : Dev nD).tc : Thread nD τ).loc main_arg1) := V_main_arg1 m 0

/-- The launch's side condition, from the bound on the table's words. -/
theorem ok_of_words {F : FTy → Type} [FloatOps F] (m : (ℓ : Loc nD τ sig) → Buf (Elt F) ℓ)
    (h : ∀ y : S1x4.Idx, (m (((0 : Dev nD).tc : Thread nD τ).loc main_arg1) y).toNat < 16) : Ok m := by
  have hw : ∀ y : S1x4.Idx, (tbl m 0 y).toNat < 16 := fun y => by rw [tbl_eq m]; exact h y
  refine ⟨fun i => ⟨fun a => ?_, .inl rfl⟩, fun i => ⟨fun a => ?_, .inl rfl⟩, fun i => ⟨fun a => ?_, .inl rfl⟩⟩
  all_goals
    have h0 : (i 0).val < 1 := (i 0).isLt
    fin_cases a
    · show ((BitVec.ofNat 32 (i 0).val).toNat + 1) * 1 ≤ 1
      rw [BitVec.toNat_ofNat]; omega
    · exact (Nat.mul_one _).le.trans (hw _)
    · exact (Nat.one_mul _).le
    · exact (Nat.one_mul _).le

/-- The precondition at one word of the table. -/
theorem word_lt (m : (ℓ : Loc nD τ sig) → Buf (Elt Ideal) ℓ) (h : Cert.Pre_KernelIdeal m) (c : Dev nD) (y : S1x4.Idx) :
    (m ((c.tc : Thread nD τ).loc main_arg1) y).toNat < 16 :=
  Cert.Index.word_lt _ _ _ _ _ (h c) y

/-- The launch's side condition, from the precondition. -/
theorem ok_of_pre (m : (ℓ : Loc nD τ sig) → Buf (Elt Ideal) ℓ) (h : Cert.Pre_KernelIdeal m) : Ok m :=
  ok_of_words m (word_lt m h 0)

end Cert.KernelIdeal.Gen

end
-- ==== Proof.Spec.lean ====
/- The function both programs compute, on the extended reals: per token block the chosen expert's two-layer adapter,
   down-projection, bias, swish, up-projection. -/
module

public import Idealize.ShloMosaic.Lib.Pointwise

@[expose] public section

noncomputable section

namespace Cert.Spec

open Idealize.ShloMosaic

/-- The expert that `expert_index` names for batch `b`. (Numbers from 0 to 15 under the precondition; the remainder only
    makes the function total.) -/
def expert (e : IVec ⟨2, ![1, 4]⟩ 32) (b : Fin 4) : Fin 16 := ⟨(e (ix2 0 b)).toNat % 16, Nat.mod_lt _ (by decide)⟩

/-- `z` times the logistic function of `z`. -/
def swish (z : EReal) : EReal := z * Ideal.logistic z

/-- The adapter's result at batch `b`, row `s`, column `n`: the sum over the 256 hidden units `d` of
    `swish (x[b, s, :] · down_w[0, expert, :, d] + down_b[0, expert, d]) * up_w[0, expert, d, n]`. -/
def out (x : FVec Ideal ⟨3, ![4, 2048, 2048]⟩ .f32) (e : IVec ⟨2, ![1, 4]⟩ 32) (dw : FVec Ideal ⟨4, ![1, 16, 2048, 256]⟩ .f32)
    (db : FVec Ideal ⟨3, ![1, 16, 256]⟩ .f32) (uw : FVec Ideal ⟨4, ![1, 16, 256, 2048]⟩ .f32) (b : Fin 4) (s n : Fin 2048) : EReal :=
  ∑ d : Fin 256,
    swish ((∑ k : Fin 2048, x (ix3 b s k) * dw (ix4 0 (expert e b) k d)) + db (ix3 0 (expert e b) d)) * uw (ix4 0 (expert e b) d n)

end Cert.Spec

end
-- ==== Proof.Reads.lean ====
/- Each grid point's input blocks, read at an index. The point names a batch and one half of its rows: the block of `x` is
   those rows; the blocks of the weights and the bias are the whole expert that the table names for the batch. -/
module

public import proofs.«01_k».proof.Proof.Index
public import proofs.«01_k».proof.Proof.Spec
public import Idealize.ShloMosaic.Lib.Pipeline.ValueKit

@[expose] public section

set_option maxRecDepth 16384

noncomputable section

namespace Cert.KernelIdeal.Reads

open Cert.KernelIdeal Cert.KernelIdeal.Gen
open Idealize.ShloMosaic Idealize.ShloMosaic.TcCoe Idealize.SL.Sem

/-- The batch of a grid point. -/
def batch (t : Fin grid0.N) : Fin 4 := grid0.coords t 1

/-- The half of the batch's rows that a grid point computes. -/
def half (t : Fin grid0.N) : Fin 2 := grid0.coords t 2

/-- The block of `x` that a grid point reads. -/
theorem map_0 : ∀ t : Fin grid0.N, cc0_transform_0 (grid0.coords t) = ![(batch t).val, (half t).val, 0] := by decide +kernel

/-- The block of the result that a grid point writes. -/
theorem map_4 : ∀ t : Fin grid0.N, cc0_transform_4 (grid0.coords t) = ![0, (batch t).val, (half t).val, 0] := by decide +kernel

/-- Where a grid point reads the table. -/
theorem off : ∀ t : Fin grid0.N, k0_off1 (grid0.coords t) = ![0, (batch t).val] := by decide +kernel

/-- The first grid coordinate is always 0. -/
theorem first : ∀ t : Fin grid0.N, (BitVec.ofNat 32 (grid0.coords t 0).val).toNat = 0 := by decide +kernel

variable (m : (ℓ : Loc nD τ sig) → Buf (Elt Ideal) ℓ) (hO : Ok m)

/-- The table's word for a batch. -/
def word (b : Fin 4) : ℕ := (m (((0 : Dev nD).tc : Thread nD τ).loc main_arg1) (ix2 (0 : Fin 1) b : S1x4.Idx)).toNat

/-- The word that a grid point reads. -/
theorem word_at (t : Fin grid0.N) (inb) (h) :
    ((tbl m).at 0 (Rect.unit (s := S1x4) (k0_off1 (grid0.coords t)) S1x1.size inb) h).toNat = word m (batch t) := by
  have e : ∀ i : S1x4.Idx, (∀ a, (i a : ℕ) = k0_off1 (grid0.coords t) a) → i = ix2 (0 : Fin 1) (batch t) := fun i hi =>
    funext fun a => Fin.ext (by
      rw [hi a, off t]
      match a with
      | 0 => rfl
      | 1 => rfl)
  unfold word
  rw [← tbl_eq m]
  exact congrArg (fun i => (tbl m 0 i).toNat) (e _ fun a => (Rect.idx_unit_val _ _ _ _ a).trans (by
    rfl))

/-- The block index of an expert, from its two computed entries. -/
theorem row_of {a a' w w' : ℕ} (ha : a = a') (hw : w = w') : (![a, w, 0, 0] : Fin 4 → ℕ) = ![a', w', 0, 0] := by rw [ha, hw]

/-- Each window's block index at a grid point. -/
theorem idx_0 (t : Fin grid0.N) : ((cfgM m hO).win 0).index t = ![(batch t).val, (half t).val, 0] := map_0 t
theorem idx_4 (t : Fin grid0.N) : ((cfgM m hO).win 4).index t = ![0, (batch t).val, (half t).val, 0] := map_4 t

theorem idx_1 (t : Fin grid0.N) : ((cfgM m hO).win 1).index t = ![0, word m (batch t), 0, 0] :=
  row_of (first t) (word_at m t (k0_off1_inb _) numel1_S1x1)

theorem idx_2 (t : Fin grid0.N) : ((cfgM m hO).win 2).index t = ![0, word m (batch t), 0, 0] :=
  row_of (first t) (word_at m t (k0_off1_inb _) numel1_S1x1)

theorem idx_3 (t : Fin grid0.N) : ((cfgM m hO).win 3).index t = ![0, word m (batch t), 0, 0] :=
  row_of (first t) (word_at m t (k0_off1_inb _) numel1_S1x1)

variable (c : Dev nD) (t : Fin grid0.N)

/-- Two indices of a three-axis array agree when their coordinates do. -/
theorem ext3 {A B C : ℕ} {i j : (⟨3, ![A, B, C]⟩ : Shape).Idx} (h0 : (i 0 : ℕ) = j 0) (h1 : (i 1 : ℕ) = j 1) (h2 : (i 2 : ℕ) = j 2) : i = j :=
  funext fun p => Fin.ext (match p with
    | 0 => h0
    | 1 => h1
    | 2 => h2)

/-- Two indices of a four-axis array agree when their coordinates do. -/
theorem ext4 {A B C D : ℕ} {i j : (⟨4, ![A, B, C, D]⟩ : Shape).Idx} (h0 : (i 0 : ℕ) = j 0) (h1 : (i 1 : ℕ) = j 1) (h2 : (i 2 : ℕ) = j 2)
    (h3 : (i 3 : ℕ) = j 3) : i = j :=
  funext fun p => Fin.ext (match p with
    | 0 => h0
    | 1 => h1
    | 2 => h2
    | 3 => h3)

/-- An element of a block lies in the array at the block's index times the block's size, plus its own coordinate. -/
theorem coord {G : Pipeline.Grid} (w : Pipeline.Window sig G) (t : Fin G.N) (hk : w.kind = .blocked) {v : Fin w.shape.rank → ℕ}
    (hv : w.index t = v) (y : (w.xblock (G.coords t)).Idx) (a : Fin w.shape.rank) :
    ((w.rect t).emb y a : ℕ) = v a * w.size a + y a := by
  rw [w.rect_emb_val t y a hk, hv]

/-- The block of `x`: row `s` of the block is row `1024 · half + s` of the batch. -/
theorem x_at (s : Fin 1024) (k : Fin 2048) (s' : Fin 2048) (hs : (s' : ℕ) = (half t).val * 1024 + s) :
    iblk m hO c 0 t (ix3 (0 : Fin 1) s k : S1x1024x2048.Idx) = m ((c : Thread nD τ).loc main_arg0) (ix3 (batch t) s' k) := by
  have h := coord ((cfgM m hO).win 0) t rfl (idx_0 m hO t) (ix3 (0 : Fin 1) s k : S1x1024x2048.Idx)
  refine (congrFun (V_main_arg0 m c) _).trans (congrArg (m ((c : Thread nD τ).loc main_arg0)) (ext3 ?_ ?_ ?_))
  · exact (h (0 : Fin 3)).trans (Nat.mul_one _)
  · exact (h (1 : Fin 3)).trans hs.symm
  · exact (h (2 : Fin 3)).trans (Nat.zero_add _)

/-- The block of the down weights is the chosen expert's matrix. -/
theorem dw_at (k : Fin 2048) (d : Fin 256) (r : Fin 16) (hr : (r : ℕ) = word m (batch t)) :
    iblk m hO c 1 t (ix4 (0 : Fin 1) (0 : Fin 1) k d : S1x1x2048x256.Idx) = m ((c : Thread nD τ).loc main_arg2) (ix4 (0 : Fin 1) r k d) := by
  have h := coord ((cfgM m hO).win 1) t rfl (idx_1 m hO t) (ix4 (0 : Fin 1) (0 : Fin 1) k d : S1x1x2048x256.Idx)
  refine (congrFun (V_main_arg2 m c) _).trans (congrArg (m ((c : Thread nD τ).loc main_arg2)) (ext4 ?_ ?_ ?_ ?_))
  · exact (h (0 : Fin 4)).trans rfl
  · exact (h (1 : Fin 4)).trans ((Nat.mul_one _).trans hr.symm)
  · exact (h (2 : Fin 4)).trans ((congrArg (· + (k : ℕ)) (Nat.zero_mul _)).trans (Nat.zero_add _))
  · exact (h (3 : Fin 4)).trans ((congrArg (· + (d : ℕ)) (Nat.zero_mul _)).trans (Nat.zero_add _))

/-- The block of the up weights is the chosen expert's matrix. -/
theorem uw_at (d : Fin 256) (n : Fin 2048) (r : Fin 16) (hr : (r : ℕ) = word m (batch t)) :
    iblk m hO c 3 t (ix4 (0 : Fin 1) (0 : Fin 1) d n : S1x1x256x2048.Idx) = m ((c : Thread nD τ).loc main_arg4) (ix4 (0 : Fin 1) r d n) := by
  have h := coord ((cfgM m hO).win 3) t rfl (idx_3 m hO t) (ix4 (0 : Fin 1) (0 : Fin 1) d n : S1x1x256x2048.Idx)
  refine (congrFun (V_main_arg4 m c) _).trans (congrArg (m ((c : Thread nD τ).loc main_arg4)) (ext4 ?_ ?_ ?_ ?_))
  · exact (h (0 : Fin 4)).trans rfl
  · exact (h (1 : Fin 4)).trans ((Nat.mul_one _).trans hr.symm)
  · exact (h (2 : Fin 4)).trans ((congrArg (· + (d : ℕ)) (Nat.zero_mul _)).trans (Nat.zero_add _))
  · exact (h (3 : Fin 4)).trans ((congrArg (· + (n : ℕ)) (Nat.zero_mul _)).trans (Nat.zero_add _))

/-- The bias as the kernel takes it, `1 × 16 × 1 × 256`, is the bias with an axis of one element added. -/
theorem bias_entry (r : Fin 16) (d : Fin 256) :
    V m c main_v0 (ix4 (0 : Fin 1) r (0 : Fin 1) d : S1x16x1x256.Idx) = m ((c : Thread nD τ).loc main_arg3) (ix3 (0 : Fin 1) r d) := by
  entry_read
  pointwise

/-- The block of the bias is the chosen expert's row. -/
theorem db_at (d : Fin 256) (r : Fin 16) (hr : (r : ℕ) = word m (batch t)) :
    iblk m hO c 2 t (ix4 (0 : Fin 1) (0 : Fin 1) (0 : Fin 1) d : S1x1x1x256.Idx) = m ((c : Thread nD τ).loc main_arg3) (ix3 (0 : Fin 1) r d) := by
  have h := coord ((cfgM m hO).win 2) t rfl (idx_2 m hO t) (ix4 (0 : Fin 1) (0 : Fin 1) (0 : Fin 1) d : S1x1x1x256.Idx)
  refine (congrArg (V m c main_v0) (ext4 ?_ ?_ ?_ ?_)).trans (bias_entry m c r d)
  · exact (h (0 : Fin 4)).trans rfl
  · exact (h (1 : Fin 4)).trans ((Nat.mul_one _).trans hr.symm)
  · exact (h (2 : Fin 4)).trans rfl
  · exact (h (3 : Fin 4)).trans ((congrArg (· + (d : ℕ)) (Nat.zero_mul _)).trans (Nat.zero_add _))

end Cert.KernelIdeal.Reads

end
-- ==== Proof.Block.lean ====
/- What one grid point leaves in its output block. The body cuts the block's 1024 rows into 8 tiles of 128 rows; a tile
   is the rows' product with the down weights, plus the bias, times its logistic, then the product with the up weights.
   The 8 tiles fill the block, so the block holds the one formula `blockVal` of the four input blocks. -/
module

public import proofs.«01_k».proof.Proof.Gen.KernelIdeal.Frame
public import proofs.«01_k».proof.Proof.Spec
public import Idealize.ShloMosaic.Lib.Pipeline.ValueKit

@[expose] public section

set_option maxRecDepth 16384

noncomputable section

namespace Cert.KernelIdeal.Block

open Cert.KernelIdeal Cert.KernelIdeal.Gen
open Idealize.ShloMosaic Idealize.ShloMosaic.TcCoe Idealize.SL.Sem

/-- The adapter on one block: `x0` the block's 1024 rows, `x1`, `x2`, `x3` the chosen expert's down weights, bias and up
    weights; row `s`, column `n`. -/
def blockVal (x0 : FVec Ideal S1x1024x2048 .f32) (x1 : FVec Ideal S1x1x2048x256 .f32) (x2 : FVec Ideal S1x1x1x256 .f32)
    (x3 : FVec Ideal S1x1x256x2048 .f32) (s : Fin 1024) (n : Fin 2048) : EReal :=
  ∑ d : Fin 256, Spec.swish ((∑ k : Fin 2048, x0 (ix3 0 s k) * x1 (ix4 0 0 k d)) + x2 (ix4 0 0 0 d)) * x3 (ix4 0 0 d n)

/-- One tile: what the body computes from 128 rows `v`, at row `r` and column `n` of the tile. -/
theorem tile_at (x1 : FVec Ideal S1x1x2048x256 .f32) (x2 : FVec Ideal S1x1x1x256 .f32) (x3 : FVec Ideal S1x1x256x2048 .f32)
    (v : FVec Ideal S1x128x2048 .f32) (a b : Fin 1) (r : Fin 128) (n : Fin 2048) :
    k0_pay18 (F := Ideal) (k0_pay5 x3) (k0_pay7 x1 x2 v) (ix4 a b r n)
      = ∑ d : Fin 256, Spec.swish ((∑ k : Fin 2048, v (ix3 0 r k) * x1 (ix4 0 0 k d)) + x2 (ix4 0 0 0 d)) * x3 (ix4 0 0 d n) := by
  pointwise [k0_pay18, k0_pay5, k0_pay7, k0_pay4, k0_pay6, Spec.swish]

/-- A tile at the block's rows `o`, …, `o + 127`, met at the block index where it is stored. -/
theorem tile_eq (x0 : FVec Ideal S1x1024x2048 .f32) (x1 : FVec Ideal S1x1x2048x256 .f32) (x2 : FVec Ideal S1x1x1x256 .f32)
    (x3 : FVec Ideal S1x1x256x2048 .f32) (v : FVec Ideal S1x128x2048 .f32) (o : ℕ) (x : S1x1x128x2048.Idx)
    (s : Fin 1024) (n : Fin 2048) (hs : (s : ℕ) = o + x 2) (hn : (n : ℕ) = x 3)
    (hv : ∀ (r : Fin 128) (s' : Fin 1024) (k : Fin 2048), (s' : ℕ) = o + r → v (ix3 0 r k) = x0 (ix3 0 s' k)) :
    k0_pay18 (F := Ideal) (k0_pay5 x3) (k0_pay7 x1 x2 v) x = blockVal x0 x1 x2 x3 s n := by
  rw [eq_ix4 x]
  refine (tile_at x1 x2 x3 v _ _ _ _).trans ?_
  obtain rfl : n = x 3 := Fin.ext hn
  exact Finset.sum_congr rfl fun d _ => by
    rw [Finset.sum_congr rfl fun k _ => by rw [hv (x 2) s k hs]]

/-- The coordinates of the row a tile's load meets: row `r` of the load from row `o` on is the block's row `s = o + r`. -/
theorem rows_at (o : ℕ) (r : Fin 128) (s : Fin 1024) (k : Fin 2048) (h : (s : ℕ) = o + r) (a : Fin 3) :
    ((ix3 (0 : Fin 1) s k : S1x1024x2048.Idx) a : ℕ) = (![0, o, 0] : Fin 3 → ℕ) a + ((ix3 (0 : Fin 1) r k : S1x128x2048.Idx) a : ℕ) := by
  match a with
  | 0 => rfl
  | 1 => exact h
  | 2 => exact (Nat.zero_add _).symm

/-- The output block a grid point leaves: at row `y 2`, column `y 3`, the adapter on the point's four input blocks. -/
theorem block (c : Dev nD) (i) (arg4 harg4 arg5 harg5 arg6 harg6 arg7 harg7 arg8 harg8) (x0 : Vec Ideal S1x1024x2048 .f32)
    (x1 : Vec Ideal S1x1x2048x256 .f32) (x2 : Vec Ideal S1x1x1x256 .f32) (x3 : Vec Ideal S1x1x256x2048 .f32)
    (xt0 : TbBuf0 (F := Ideal) c tbM0_0) (y : S1x1x1024x2048.Idx) :
    out0_A_4 c i arg4 harg4 arg5 harg5 arg6 harg6 arg7 harg7 arg8 harg8 x0 x1 x2 x3 xt0 y = blockVal x0 x1 x2 x3 (y 2) (y 3) := by
  frame_out
  canon_tiles x h
  on_goal 8 =>
    exact tile_eq x0 x1 x2 x3 _ 0 x _ _ (h2.trans (Nat.zero_add _).symm) ‹_› fun r s k h =>
      View.ld_unit_apply_of _ _ _ _ (ix3 0 r k) (ix3 0 s k) (rows_at 0 r s k h)
  all_goals
    exact tile_eq x0 x1 x2 x3 _ _ x _ _ h2 ‹_› fun r s k h =>
      View.ld_unit_apply_of _ _ _ _ (ix3 0 r k) (ix3 0 s k) (rows_at _ r s k h)

end Cert.KernelIdeal.Block

end
-- ==== Proof.Array.lean ====
/- The array the kernel leaves. Grid point `(0, b, h)` writes batch `b`, rows `1024 h` to `1024 h + 1023`, from the same
   rows of `x` and the weights of the expert that the table names for `b`. The blocks cover the array, so the array holds
   `Spec.out` at every index. -/
module

public import proofs.«01_k».proof.Proof.Reads
public import proofs.«01_k».proof.Proof.Block
public import Idealize.ShloMosaic.Lib.Pipeline.Covers

@[expose] public section

set_option maxRecDepth 16384

noncomputable section

namespace Cert.KernelIdeal.Array

open Cert.KernelIdeal Cert.KernelIdeal.Gen
open Idealize.ShloMosaic Idealize.ShloMosaic.TcCoe Idealize.SL.Sem

/-- The grid coordinates of batch `b`, half `h`. -/
def coordsOf (b : Fin 4) (h : Fin 2) : grid0.Coords := fun a => match a with
  | 0 => (0 : Fin 1)
  | 1 => b
  | 2 => h

/-- The output block that those coordinates write. -/
theorem map_of : ∀ (b : Fin 4) (h : Fin 2), cc0_transform_4 (coordsOf b h) = ![0, b.val, h.val, 0] := by decide +kernel

variable (m : (ℓ : Loc nD τ sig) → Buf (Elt Ideal) ℓ) (hO : Ok m)

/-- The number of blocks along each axis of the output. -/
theorem nblk_eq : ∀ a : Fin 4, (S1x4x2048x2048.size a + S1x1x1024x2048.size a - 1) / S1x1x1024x2048.size a = ![1, 4, 2, 1] a := by
  decide

/-- The output's blocks cover it: batch `b`, half `h` is the block of grid point `(0, b, h)`. -/
theorem covers : ((cfgM m hO).win 4).Covers :=
  ((cfgM m hO).win 4).covers_of_indexMap_surj rfl (by decide : ∀ a : Fin 4, 0 < S1x1x1024x2048.size a) fun β =>
    have hβ : ∀ a : Fin 4, (β a).val < ![1, 4, 2, 1] a := fun a => (β a).isLt.trans_eq (nblk_eq a)
    ⟨coordsOf ⟨_, hβ 1⟩ ⟨_, hβ 2⟩, fun (a : Fin 4) => (congrFun (map_of ⟨_, hβ 1⟩ ⟨_, hβ 2⟩) a).trans (match a with
      | 0 => (Nat.lt_one_iff.1 (hβ 0)).symm
      | 1 => rfl
      | 2 => rfl
      | 3 => (Nat.lt_one_iff.1 (hβ 3)).symm)⟩

/-- The expert that the table names for the batch of a point, as its number. -/
theorem expert_val (h : ∀ y : S1x4.Idx, (m (((0 : Dev nD).tc : Thread nD τ).loc main_arg1) y).toNat < 16) (b : Fin 4) :
    (Spec.expert (m (((0 : Dev nD).tc : Thread nD τ).loc main_arg1)) b : ℕ) = Reads.word m b := Nat.mod_eq_of_lt (h _)

/-- What point `t` leaves at row `s'` of its batch: the adapter's value there. -/
theorem point (h : ∀ y : S1x4.Idx, (m (((0 : Dev nD).tc : Thread nD τ).loc main_arg1) y).toNat < 16) (t : Fin grid0.N)
    (s : Fin 1024) (n s' : Fin 2048) (hs : (s' : ℕ) = (Reads.half t).val * 1024 + s) :
    Block.blockVal (iblk m hO 0 0 t) (iblk m hO 0 1 t) (iblk m hO 0 2 t) (iblk m hO 0 3 t) s n
      = Spec.out (m (((0 : Dev nD) : Thread nD τ).loc main_arg0)) (m (((0 : Dev nD) : Thread nD τ).loc main_arg1))
          (m (((0 : Dev nD) : Thread nD τ).loc main_arg2)) (m (((0 : Dev nD) : Thread nD τ).loc main_arg3))
          (m (((0 : Dev nD) : Thread nD τ).loc main_arg4)) (Reads.batch t) s' n := by
  have hr := expert_val m h (Reads.batch t)
  refine Finset.sum_congr rfl fun d _ => ?_
  refine congrArg₂ (· * ·) (congrArg Spec.swish (congrArg₂ (· + ·) (Finset.sum_congr rfl fun k _ => ?_) ?_)) ?_
  · exact congrArg₂ (· * ·) (Reads.x_at m hO 0 t s k s' hs) (Reads.dw_at m hO 0 t k d _ hr)
  · exact Reads.db_at m hO 0 t d _ hr
  · exact Reads.uw_at m hO 0 t d n _ hr

/-- The kernel's result: the adapter at every batch, row and column. -/
theorem final (h : ∀ y : S1x4.Idx, (m (((0 : Dev nD).tc : Thread nD τ).loc main_arg1) y).toNat < 16) (c : Dev nD) :
    (dats m hO 0 c).arrAt 4 (cfgM m hO).N = fun j : S1x4x2048x2048.Idx =>
      Spec.out (m ((c : Thread nD τ).loc main_arg0)) (m ((c : Thread nD τ).loc main_arg1))
        (m ((c : Thread nD τ).loc main_arg2)) (m ((c : Thread nD τ).loc main_arg3)) (m ((c : Thread nD τ).loc main_arg4)) (j 1) (j 2) (j 3) := by
  obtain rfl : c = 0 := Subsingleton.elim _ _
  refine (dats m hO 0 0).arrAt_eq_of_covers 4 _ (covers m hO) fun t hf y => ?_
  blk_simp
  rw [after0_4]; unfold outsAt0
  refine (Block.block _ _ _ _ _ _ _ _ _ _ _ _ _ _ _ _ _ _).trans ?_
  have e := Reads.coord ((cfgM m hO).win 4) t rfl (Reads.idx_4 m hO t) y
  have h1 : (((cfgM m hO).win 4).blk t).view.emb y (1 : Fin 4) = Reads.batch t :=
    Fin.ext ((e (1 : Fin 4)).trans ((congrArg (_ + ·) (Nat.lt_one_iff.1 (y (1 : Fin 4)).isLt)).trans (Nat.mul_one _)))
  have h3 : (((cfgM m hO).win 4).blk t).view.emb y (3 : Fin 4) = (y (3 : Fin 4) : Fin 2048) :=
    Fin.ext ((e (3 : Fin 4)).trans ((congrArg (· + _) (Nat.zero_mul _)).trans (Nat.zero_add _)))
  refine (point m hO h t (y (2 : Fin 4)) (y (3 : Fin 4)) _ (e (2 : Fin 4))).trans ?_
  exact congrArg₂ (fun b n => Spec.out _ _ _ _ _ b _ n) h1.symm h3.symm

end Cert.KernelIdeal.Array

end
-- ==== Proof.Run.lean ====
/- The kernel's run in the form of the claim: from arguments with the experts in range it ends with `Spec.out` of them in
   its result and the arguments unchanged. -/
module

public import proofs.«01_k».proof.Proof.Array
public import Idealize.ShloMosaic.Lib.Claim

@[expose] public section

noncomputable section

namespace Cert.KernelIdeal.Array

open Cert.KernelIdeal Cert.KernelIdeal.Gen
open Idealize.ShloMosaic Idealize.ShloMosaic.TcCoe Idealize.SL.Sem

/-- What the kernel's result array holds. -/
def result (m : (ℓ : Loc nD τ sig) → Buf (Elt Ideal) ℓ) (c : Dev nD) : Buf (Elt Ideal) ((c : Thread nD τ).loc main_v1) :=
  fun j : S1x4x2048x2048.Idx =>
    Spec.out (m ((c : Thread nD τ).loc main_arg0)) (m ((c : Thread nD τ).loc main_arg1))
      (m ((c : Thread nD τ).loc main_arg2)) (m ((c : Thread nD τ).loc main_arg3)) (m ((c : Thread nD τ).loc main_arg4)) (j 1) (j 2) (j 3)

/-- The kernel's run: the result array at the end, and the arguments unchanged. -/
theorem run (m : (ℓ : Loc nD τ sig) → Buf (Elt Ideal) ℓ) (ρ : Dev nD → PrngReg)
    (h : ∀ y : S1x4.Idx, (m (((0 : Dev nD).tc : Thread nD τ).loc main_arg1) y).toNat < 16) :
    θ_run defs (onTc (τ := τ) (main (F := Ideal))) ⟨m, fun _ => 0, ρ⟩ (fun r => ∀ c : Dev nD,
      r.2.mem ((c.tc : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  have hO := ok_of_words m h
  (θ_run defs _ _).mono (fun _ hr c => ⟨(((hr.2 c).1 4).trans (final m hO h c)), hr.1 c⟩)
    (θ_run_and (unchanged m ρ hO) (run_main m ρ hO))

end Cert.KernelIdeal.Array

end
-- ==== Proof.Gather.lean ====
/- The reference's three gathers read at an index: each takes, for batch `b`, the whole expert that the start indices
   name there, the number read as a signed integer and kept between 0 and 15. -/
module

public import proofs.«01_k».proof.Proof.Gen.ReferenceIdeal
public import Idealize.ShloMosaic.Lib.Pointwise

@[expose] public section

set_option maxRecDepth 16384

namespace Cert.ReferenceIdeal.Gather

open Cert.ReferenceIdeal
open Idealize.ShloMosaic

/-- The expert that the start indices `i` name for batch `b`. -/
def row (i : IVec S1x4x2 32) (b : Fin 4) : Fin 16 := ⟨min (i (ix3 0 b 1)).toInt.toNat 15, by omega⟩

/-- The down weights. -/
theorem down {α : Type} (x : S1x16x2048x256.Idx → α) (i : IVec S1x4x2 32) (a : Fin 1) (b : Fin 4) (k : Fin 2048) (d : Fin 256) :
    Host.gather gather_S1x16x2048x256_S1x4x2_S1x4x2048x256_23_01_n_n_01_2_112048256 x i (ix4 a b k d) = x (ix4 0 (row i b) k d) := by
  obtain rfl := Subsingleton.elim a 0
  refine congrArg x (funext fun p => Fin.ext ?_)
  show GatherDims.start _ _ _ p + GatherDims.batchCoord _ _ p + GatherDims.offCoord _ _ p = _
  rw [GatherDims.batchCoord_eq_zero _ _ _ List.not_mem_nil, Nat.add_zero]
  unfold GatherDims.start GatherDims.offCoord
  match p with
  | 0 =>
    rw [dif_pos (by decide), dif_neg (by decide)]
    exact Nat.min_zero _
  | 1 =>
    rw [dif_pos (by decide), dif_neg (by decide)]
    refine congrArg (fun z => min (i z).toInt.toNat 15) (funext fun q => Fin.ext ?_)
    match q with
    | 0 => rfl
    | 1 => rfl
    | 2 => rfl
  | 2 =>
    rw [dif_neg (by decide), dif_pos (by decide)]
    exact Nat.zero_add _
  | 3 =>
    rw [dif_neg (by decide), dif_pos (by decide)]
    exact Nat.zero_add _

/-- The bias. -/
theorem bias {α : Type} (x : S1x16x256.Idx → α) (i : IVec S1x4x2 32) (a : Fin 1) (b : Fin 4) (d : Fin 256) :
    Host.gather gather_S1x16x256_S1x4x2_S1x4x256_2_01_n_n_01_2_11256 x i (ix3 a b d) = x (ix3 0 (row i b) d) := by
  obtain rfl := Subsingleton.elim a 0
  refine congrArg x (funext fun p => Fin.ext ?_)
  show GatherDims.start _ _ _ p + GatherDims.batchCoord _ _ p + GatherDims.offCoord _ _ p = _
  rw [GatherDims.batchCoord_eq_zero _ _ _ List.not_mem_nil, Nat.add_zero]
  unfold GatherDims.start GatherDims.offCoord
  match p with
  | 0 =>
    rw [dif_pos (by decide), dif_neg (by decide)]
    exact Nat.min_zero _
  | 1 =>
    rw [dif_pos (by decide), dif_neg (by decide)]
    refine congrArg (fun z => min (i z).toInt.toNat 15) (funext fun q => Fin.ext ?_)
    match q with
    | 0 => rfl
    | 1 => rfl
    | 2 => rfl
  | 2 =>
    rw [dif_neg (by decide), dif_pos (by decide)]
    exact Nat.zero_add _

/-- The up weights. -/
theorem up {α : Type} (x : S1x16x256x2048.Idx → α) (i : IVec S1x4x2 32) (a : Fin 1) (b : Fin 4) (d : Fin 256) (n : Fin 2048) :
    Host.gather gather_S1x16x256x2048_S1x4x2_S1x4x256x2048_23_01_n_n_01_2_112562048 x i (ix4 a b d n) = x (ix4 0 (row i b) d n) := by
  obtain rfl := Subsingleton.elim a 0
  refine congrArg x (funext fun p => Fin.ext ?_)
  show GatherDims.start _ _ _ p + GatherDims.batchCoord _ _ p + GatherDims.offCoord _ _ p = _
  rw [GatherDims.batchCoord_eq_zero _ _ _ List.not_mem_nil, Nat.add_zero]
  unfold GatherDims.start GatherDims.offCoord
  match p with
  | 0 =>
    rw [dif_pos (by decide), dif_neg (by decide)]
    exact Nat.min_zero _
  | 1 =>
    rw [dif_pos (by decide), dif_neg (by decide)]
    refine congrArg (fun z => min (i z).toInt.toNat 15) (funext fun q => Fin.ext ?_)
    match q with
    | 0 => rfl
    | 1 => rfl
    | 2 => rfl
  | 2 =>
    rw [dif_neg (by decide), dif_pos (by decide)]
    exact Nat.zero_add _
  | 3 =>
    rw [dif_neg (by decide), dif_pos (by decide)]
    exact Nat.zero_add _

end Cert.ReferenceIdeal.Gather

end
-- ==== Proof.Ref.lean ====
/- The reference's result is `Spec.out`: its start indices name, for batch `b`, the expert that `expert_index` holds there,
   and the rest is read at an index. -/
module

public import proofs.«01_k».proof.Proof.Gen.ReferenceIdeal.Run
public import proofs.«01_k».proof.Proof.Gather
public import proofs.«01_k».proof.Proof.Spec
public import Idealize.ShloMosaic.Lib.Pointwise

@[expose] public section

set_option maxRecDepth 16384

namespace Cert.ReferenceIdeal.Ref

open Cert.ReferenceIdeal
open Idealize.ShloMosaic Idealize.ShloMosaic.TcCoe

/-- The start indices of the three gathers: for each batch the pair `(0, expert)`, a negative number wrapped. -/
noncomputable abbrev starts (e : IVec S1x4 32) : IVec S1x4x2 32 :=
  concatenate S1x4x2 2
    [⟨S1x4x1,
        broadcastInDim S1x4x1 ![0, 1] Gen.bcast_S1x4_S1x4x1_0_1
          (broadcastInDim S1x4 ![0, 1] Gen.bcast_S1x1_S1x4_0_1
            (select
              (cmpi CmpIPredicate.slt (broadcastInDim S1x1 ![0] Gen.bcast_S1_S1x1_0 (iotaInDim S1 32 0))
                (broadcastInDim S1x1 ![] Gen.bcast_S_S1x1 (constantI S_ 32 0#32)))
              (addi (broadcastInDim S1x1 ![0] Gen.bcast_S1_S1x1_0 (iotaInDim S1 32 0))
                (broadcastInDim S1x1 ![] Gen.bcast_S_S1x1 (constantI S_ 32 1#32)))
              (broadcastInDim S1x1 ![0] Gen.bcast_S1_S1x1_0 (iotaInDim S1 32 0))))⟩,
      ⟨S1x4x1,
        broadcastInDim S1x4x1 ![0, 1] Gen.bcast_S1x4_S1x4x1_0_1
          (select
            (cmpi CmpIPredicate.slt e
              (broadcastInDim S1x4 ![] Gen.bcast_S_S1x4 (constantI S_ 32 0#32)))
            (addi e (broadcastInDim S1x4 ![] Gen.bcast_S_S1x4 (constantI S_ 32 16#32)))
            e)⟩]
    Gen.concatenates_S1x4x1_S1x4x1_S1x4x2_d2

/-- The second of the pair is the expert's number. -/
theorem starts_at (e : IVec S1x4 32) (h : ∀ y : S1x4.Idx, (e y).toNat < 16) (b : Fin 4) : starts e (ix3 (0 : Fin 1) b (1 : Fin 2)) = e (ix2 0 b) := by
  pointwise [starts]
  refine if_neg fun hc => ?_
  have hlt := IntOp.cmpi_slt.1 hc
  have hb := h (ix2 0 b)
  simp only [BitVec.toInt, BitVec.toNat_ofNat] at hlt
  omega

/-- So the gathers take the expert that `Spec.expert` names. -/
theorem row_starts (e : IVec S1x4 32) (h : ∀ y : S1x4.Idx, (e y).toNat < 16) (b : Fin 4) : Gather.row (starts e) b = Spec.expert e b := by
  have hb := h (ix2 0 b)
  refine Fin.ext ?_
  show min (starts e (ix3 0 b 1)).toInt.toNat 15 = (e (ix2 0 b)).toNat % 16
  rw [starts_at e h b]
  simp only [BitVec.toInt]
  omega

/-- The reference's result at an index. -/
theorem ref (m : (ℓ : Loc nD τ sig) → Buf (Elt Ideal) ℓ) (c : Dev nD)
    (h : ∀ y : S1x4.Idx, (m ((c : Thread nD τ).loc main_arg1) y).toNat < 16) (a : Fin 1) (b : Fin 4) (s n : Fin 2048) :
    Value.res_main_v65 m c (ix4 a b s n) = Spec.out (m ((c : Thread nD τ).loc main_arg0)) (m ((c : Thread nD τ).loc main_arg1))
        (m ((c : Thread nD τ).loc main_arg2)) (m ((c : Thread nD τ).loc main_arg3)) (m ((c : Thread nD τ).loc main_arg4)) b s n := by
  pointwise [Value.res_main_v65]
  simp only [Gather.down, Gather.up, Gather.bias, row_starts _ h b]
  rfl

/-- The reference's result. -/
theorem value (m : (ℓ : Loc nD τ sig) → Buf (Elt Ideal) ℓ) (c : Dev nD)
    (h : ∀ y : S1x4.Idx, (m ((c : Thread nD τ).loc main_arg1) y).toNat < 16) :
    Value.res_main_v65 m c = fun j : S1x4x2048x2048.Idx => Spec.out (m ((c : Thread nD τ).loc main_arg0)) (m ((c : Thread nD τ).loc main_arg1))
        (m ((c : Thread nD τ).loc main_arg2)) (m ((c : Thread nD τ).loc main_arg3)) (m ((c : Thread nD τ).loc main_arg4)) (j 1) (j 2) (j 3) :=
  funext fun j => (congrArg (Value.res_main_v65 m c) (eq_ix4 j)).trans (ref m c h (j 0) (j 1) (j 2) (j 3))

end Cert.ReferenceIdeal.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Gen.ReferenceIdeal.Run
public import proofs.«01_k».proof.Proof.Index
public import proofs.«01_k».proof.Proof.Run
public import proofs.«01_k».proof.Proof.Ref
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The reference ends with its arguments unchanged and every semaphore counter at zero. -/
theorem reference_frame : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same under the precondition, which is not needed. -/
theorem reference_frame_pre : Cert.quiescent_ReferenceIdeal_pre_in_range := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From equal arguments the reference's result is the kernel's. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v65 m' c = Cert.KernelIdeal.Array.result m c := by
  have h' : ∀ y : Cert.ReferenceIdeal.S1x4.Idx,
      (m' ((c.tc : Thread Cert.ReferenceIdeal.nD Cert.ReferenceIdeal.τ).loc Cert.ReferenceIdeal.main_arg1) y).toNat < 16 := fun y => by
    rw [e1]; exact Cert.KernelIdeal.Gen.word_lt m hpre c y
  refine (Cert.ReferenceIdeal.Ref.value m' c h').trans ?_
  rw [e0, e1, e2, e3, e4]
  rfl

/-- Kernel and reference end with the same result. -/
theorem algebraic : Cert.algebraic_KernelIdeal_ReferenceIdeal := fun m g m' g' hpre hagree =>
  ⟨Cert.KernelIdeal.Array.result m, Cert.KernelIdeal.Array.run m g (Cert.KernelIdeal.Gen.word_lt m hpre 0),
    (θ_run Cert.ReferenceIdeal.defs _ _).mono
      (fun _ h c => ⟨(h c).1.trans (value_eq m m' hpre c (hagree c).1 (hagree c).2.1 (hagree c).2.2.1 (hagree c).2.2.2.1 (hagree c).2.2.2.2), (h c).2⟩)
      (Cert.ReferenceIdeal.Value.run (F := Ideal) m' g')⟩

theorem claim : Cert.Claim :=
  ⟨Cert.Kernel.Gen.facts, Cert.KernelIdeal.Gen.facts, Cert.ReferenceIdeal.Gen.facts, Cert.Pre_in_range.Gen.facts,
    fun m ρ h => Cert.Kernel.Gen.frame m ρ (Cert.Kernel.Gen.ok_of_pre m h),
    fun m ρ h => Cert.KernelIdeal.Gen.frame m ρ (Cert.KernelIdeal.Gen.ok_of_pre m h),
    reference_frame, reference_frame_pre, trivial, algebraic⟩

end Cert.Proof

end
